-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S8 : Shape := ⟨1, ![8]⟩
abbrev S_ : Shape := ⟨0, ![]⟩
abbrev S1 : Shape := ⟨1, ![1]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v10 : BitVec 32 := Scalar.addi v9 c0_i32
  let c0_i32_9 : BitVec 32 := 0#32
  ![v10.toNat, 0]
def k0_dev1 (d0 : Dev nD) : Nat :=
  let c0_i32_6 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_2 v2
  let c16_i32_5 : BitVec 32 := 16#32
  let v12 : BitVec 32 := Scalar.muli v11 c16_i32_5
  let v13 : BitVec 32 := Scalar.addi c0_i32_6 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v14 : BitVec 32 := Scalar.muli v5 c4_i32_7
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_17 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.subi c1_i32_13 v2
  let c16_i32_16 : BitVec 32 := 16#32
  let v27 : BitVec 32 := Scalar.muli v26 c16_i32_16
  let v28 : BitVec 32 := Scalar.addi c0_i32_17 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v29 : BitVec 32 := Scalar.muli v5 c4_i32_18
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_28 : BitVec 32 := 0#32
  let c1_i32_24 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v41 : BitVec 32 := Scalar.subi c1_i32_24 v2
  let c16_i32_27 : BitVec 32 := 16#32
  let v42 : BitVec 32 := Scalar.muli v41 c16_i32_27
  let v43 : BitVec 32 := Scalar.addi c0_i32_28 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v44 : BitVec 32 := Scalar.muli v5 c4_i32_29
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v46 : BitVec 32 := Scalar.muli v8 c1_i32_30
  let v47 : BitVec 32 := Scalar.addi v45 v46
  v47.toNat
def k0_dev4 (d0 : Dev nD) : Nat :=
  let c0_i32_38 : BitVec 32 := 0#32
  let c1_i32_35 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v56 : BitVec 32 := Scalar.subi c1_i32_35 v2
  let c16_i32_37 : BitVec 32 := 16#32
  let v57 : BitVec 32 := Scalar.muli v56 c16_i32_37
  let v58 : BitVec 32 := Scalar.addi c0_i32_38 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v59 : BitVec 32 := Scalar.muli v5 c4_i32_39
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v61 : BitVec 32 := Scalar.muli v8 c1_i32_40
  let v62 : BitVec 32 := Scalar.addi v60 v61
  v62.toNat
def k0_dev5 (d0 : Dev nD) : Nat :=
  let c0_i32_49 : BitVec 32 := 0#32
  let c1_i32_45 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v71 : BitVec 32 := Scalar.subi c1_i32_45 v2
  let c16_i32_48 : BitVec 32 := 16#32
  let v72 : BitVec 32 := Scalar.muli v71 c16_i32_48
  let v73 : BitVec 32 := Scalar.addi c0_i32_49 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v74 : BitVec 32 := Scalar.muli v5 c4_i32_50
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v76 : BitVec 32 := Scalar.muli v8 c1_i32_51
  let v77 : BitVec 32 := Scalar.addi v75 v76
  v77.toNat
def k0_dev6 (d0 : Dev nD) : Nat :=
  let c0_i32_59 : BitVec 32 := 0#32
  let c1_i32_56 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v86 : BitVec 32 := Scalar.subi c1_i32_56 v2
  let c16_i32_58 : BitVec 32 := 16#32
  let v87 : BitVec 32 := Scalar.muli v86 c16_i32_58
  let v88 : BitVec 32 := Scalar.addi c0_i32_59 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v89 : BitVec 32 := Scalar.muli v5 c4_i32_60
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v91 : BitVec 32 := Scalar.muli v8 c1_i32_61
  let v92 : BitVec 32 := Scalar.addi v90 v91
  v92.toNat
def k0_dev7 (d0 : Dev nD) : Nat :=
  let c0_i32_69 : BitVec 32 := 0#32
  let c1_i32_66 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v101 : BitVec 32 := Scalar.subi c1_i32_66 v2
  let c16_i32_68 : BitVec 32 := 16#32
  let v102 : BitVec 32 := Scalar.muli v101 c16_i32_68
  let v103 : BitVec 32 := Scalar.addi c0_i32_69 v102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v104 : BitVec 32 := Scalar.muli v5 c4_i32_70
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v106 : BitVec 32 := Scalar.muli v8 c1_i32_71
  let v107 : BitVec 32 := Scalar.addi v105 v106
  v107.toNat
def k0_dev8 (d0 : Dev nD) : Nat :=
  let c0_i32_79 : BitVec 32 := 0#32
  let c1_i32_76 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v116 : BitVec 32 := Scalar.subi c1_i32_76 v2
  let c16_i32_78 : BitVec 32 := 16#32
  let v117 : BitVec 32 := Scalar.muli v116 c16_i32_78
  let v118 : BitVec 32 := Scalar.addi c0_i32_79 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v119 : BitVec 32 := Scalar.muli v5 c4_i32_80
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v121 : BitVec 32 := Scalar.muli v8 c1_i32_81
  let v122 : BitVec 32 := Scalar.addi v120 v121
  v122.toNat
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_85 : BitVec 32 := 8192#32
  let v129 : BitVec 32 := Scalar.muli v2 c8192_i32_85
  let c0_i32_86 : BitVec 32 := 0#32
  ![v129.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Views.lean ====
/-
  The pieces of the two arrays the kernel's transfers name, and what the result array is to hold.

  A device holds a block of 8192 rows (`main_arg0`) and a result of 16384 rows (`main_v1`). Its block
  goes out in eight chunks of 1024 rows, and also, whole, into the device's own half of its result.
  Everything here is stated once for a chunk's number `k : Fin 8`; the kernel's text is the case of
  each number.
-/
module

public import proofs.«01_k».proof.Proof.Gen.KernelIdeal.Skeleton
public import proofs.«01_k».proof.Proof.Gen.KernelIdeal.Launch

@[expose] public section

noncomputable section

namespace Cert.KernelIdeal.Gather

open Idealize.ShloMosaic Idealize.ShloMosaic.TcCoe Idealize.SL.Sem
open Cert.KernelIdeal Cert.KernelIdeal.Gen

/-! ## Devices in pairs -/

/-- The device a device exchanges with: the one whose coordinate on the first mesh axis is the other. -/
def peer (c : Dev nD) : Dev nD := ⟨(c.val + 16) % 32, Nat.mod_lt _ (by decide)⟩

/-- The half of the gathered array a device owns. -/
def side (c : Dev nD) : Nat := c.val / 16

theorem peer_peer (c : Dev nD) : peer (peer c) = c := by
  apply Fin.ext; have h32 : c.val < 32 := c.isLt; simp only [peer]; omega

theorem side_lt (c : Dev nD) : side c < 2 := by have h32 : c.val < 32 := c.isLt; simp only [side]; omega

theorem side_peer (c : Dev nD) : side (peer c) + side c = 1 := by
  have h32 : c.val < 32 := c.isLt; simp only [side, peer]; omega

theorem peer_ne (c : Dev nD) : peer c ≠ c := fun h => by
  have h1 := side_peer c; rw [h] at h1; omega

/-- Exchanging with the partner is a permutation of the devices. -/
def swap : Dev nD ≃ Dev nD := ⟨peer, peer, peer_peer, peer_peer⟩

/-- The device number the kernel computes for a transfer is the partner's. -/
theorem dev_eq (c : Dev nD) {n : Nat} (h : n < nD)
    (e : n = (4 * ((c.val / 4) % 4) + (c.val % 4) + 16) - 16 * (c.val / 16)) : (⟨n, h⟩ : Dev nD) = peer c := by
  apply Fin.ext; have h32 : c.val < 32 := c.isLt; simp only [peer]; omega

/-! ## The pieces -/

theorem inb_sem (k : Fin 8) : ∀ a, (![k.val] : Fin 1 → Nat) a + S1.size a ≤ S8.size a :=
  Rect.inb₁ (d := ![8]) (by have := k.isLt; simp; omega)

theorem inb_x (k : Fin 8) : ∀ a, (![1024 * k.val, 0] : Fin 2 → Nat) a + S1024x1024.size a ≤ S8192x1024.size a :=
  Rect.inb₂ (d := ![8192, 1024]) (by have := k.isLt; simp; omega) (by simp)

/-- Entry `k` of an array of eight semaphores. -/
abbrev semAt (a : DmaSems sig S8) (k : Fin 8) : DmaSem sig :=
  ((a.slice (Rect.unit (s := S8) ![k.val] S1.size (inb_sem k))).squeeze S_ squeezes_S1_S_).sem

/-- The semaphore the sending side of chunk `k` is paid on, -/
abbrev sendSem (k : Fin 8) : SemLoc sig := .dma (semAt cc0_scratch0 k)
/-- the one its receiving side is paid on, -/
abbrev recvSem (k : Fin 8) : SemLoc sig := .dma (semAt cc0_scratch1 k)
/-- and the one of the copy of the whole block. -/
abbrev copySem : SemLoc sig := .dma (cc0_scratch2 : DmaSems sig S_).sem

/-- Chunk `k` of a device's block. -/
abbrev xChunk (k : Fin 8) : Memref sig .tc .hbm S1024x1024 .f32 :=
  (Memref.whole main_arg0).slice (Rect.unit (s := S8192x1024) ![1024 * k.val, 0] S1024x1024.size (inb_x k)) (fun _ => rfl)

/-- Where chunk `k` of device `c`'s block goes in a result. -/
abbrev oChunk (c : Dev nD) (k : Fin 8) : Memref sig .tc .hbm S1024x1024 .f32 :=
  (Memref.whole main_v1).slice (Rect.unit (s := S16384x1024) (k0_off1 c (BitVec.ofNat 32 (1024 * k.val))) S1024x1024.size (k0_off1_inb c k)) (fun _ => rfl)

/-- Where device `c`'s block goes in a result. -/
abbrev oHalf (c : Dev nD) : Memref sig .tc .hbm S8192x1024 .f32 :=
  (Memref.whole main_v1).slice (Rect.unit (s := S16384x1024) (k0_off2 c) S8192x1024.size (k0_off2_inb c)) (fun _ => rfl)

/-- A device's whole block. -/
abbrev xAll : Memref sig .tc .hbm S8192x1024 .f32 := Memref.whole main_arg0

/-- The elements of a piece, as elements of its array: the ones of a block's chunk, -/
def xSet (k : Fin 8) : Finset S8192x1024.Idx := (xChunk k).view.set
/-- of a chunk's place in a result, -/
def oSet (c : Dev nD) (k : Fin 8) : Finset S16384x1024.Idx := (oChunk c k).view.set
/-- of a block's place in a result. -/
def hSet (c : Dev nD) : Finset S16384x1024.Idx := (oHalf c).view.set

theorem mem_xSet (k : Fin 8) (i : S8192x1024.Idx) :
    i ∈ xSet k ↔ 1024 * k.val ≤ (i 0).val ∧ (i 0).val < 1024 * k.val + 1024 := by
  have h1 : (i 1).val < 1024 := (i 1).isLt
  rw [show xSet k = _ from View.set_slice_whole _ _, Rect.mem_set_unit]
  refine (Fin.forall_fin_two).trans ?_
  simp
  omega

theorem mem_oSet (c : Dev nD) (k : Fin 8) (i : S16384x1024.Idx) :
    i ∈ oSet c k ↔ 8192 * side c + 1024 * k.val ≤ (i 0).val ∧ (i 0).val < 8192 * side c + 1024 * k.val + 1024 := by
  have h1 : (i 1).val < 1024 := (i 1).isLt
  rw [show oSet c k = _ from View.set_slice_whole _ _, Rect.mem_set_unit, k0_off1_eq]
  refine (Fin.forall_fin_two).trans ?_
  simp [side]
  omega

theorem mem_hSet (c : Dev nD) (i : S16384x1024.Idx) :
    i ∈ hSet c ↔ 8192 * side c ≤ (i 0).val ∧ (i 0).val < 8192 * side c + 8192 := by
  have h1 : (i 1).val < 1024 := (i 1).isLt
  rw [show hSet c = _ from View.set_slice_whole _ _, Rect.mem_set_unit, k0_off2_eq]
  refine (Fin.forall_fin_two).trans ?_
  simp [side]
  omega

/-- The chunks of a block are disjoint, -/
theorem xSet_disjoint : ∀ t₁ ∈ (Finset.univ : Finset (Fin 8)), ∀ t₂ ∈ (Finset.univ : Finset (Fin 8)), t₁ ≠ t₂ → Disjoint (xSet t₁) (xSet t₂) := by
  intro a _ b _ hne
  rw [Finset.disjoint_left]
  intro i ha hb
  rw [mem_xSet] at ha hb
  exact hne (Fin.ext (by omega))

/-- and are the block. -/
theorem xSet_cover : (Finset.univ : Finset (Fin 8)).biUnion xSet = Finset.univ := by
  ext i
  have h0 : (i 0).val < 8192 := (i 0).isLt
  simp only [Finset.mem_biUnion, Finset.mem_univ, true_and, iff_true]
  exact ⟨⟨(i 0).val / 1024, by omega⟩, (mem_xSet _ _).mpr (by dsimp only; omega)⟩

/-- The chunks' places in a result are disjoint, -/
theorem oSet_disjoint (c : Dev nD) : ∀ t₁ ∈ (Finset.univ : Finset (Fin 8)), ∀ t₂ ∈ (Finset.univ : Finset (Fin 8)), t₁ ≠ t₂ → Disjoint (oSet c t₁) (oSet c t₂) := by
  intro a _ b _ hne
  rw [Finset.disjoint_left]
  intro i ha hb
  rw [mem_oSet] at ha hb
  exact hne (Fin.ext (by omega))

/-- and the places of the partner's chunks are what a device's own half leaves of its result. -/
theorem oSet_cover (c : Dev nD) :
    (Finset.univ : Finset (Fin 8)).biUnion (oSet (peer c)) = Finset.univ \ hSet c := by
  ext i
  have h0 : (i 0).val < 16384 := (i 0).isLt
  have hs := side_peer c
  have hl := side_lt c
  simp only [Finset.mem_biUnion, Finset.mem_univ, true_and, Finset.mem_sdiff, mem_hSet, mem_oSet]
  constructor
  · rintro ⟨k, h⟩; have := k.isLt; omega
  · intro h
    refine ⟨⟨((i 0).val - 8192 * side (peer c)) / 1024, ?_⟩, ?_⟩
    · omega
    · dsimp only; omega

/-! ## What the result holds -/

variable {F : FTy → Type}

/-- The device whose block the row of an element of `c`'s result is in. -/
def owner (c : Dev nD) (i : S16384x1024.Idx) : Dev nD := if (i 0).val / 8192 = side c then c else peer c

/-- An element's position in that block. -/
def within (i : S16384x1024.Idx) : S8192x1024.Idx
  | ⟨0, _⟩ => ⟨(i 0).val % 8192, Nat.mod_lt _ (by decide)⟩
  | ⟨1, _⟩ => ⟨(i 1).val, (i 1).isLt⟩

/-- The gathered array on device `c`: each row is its owner's. -/
def gathered (m : (ℓ : Loc nD τ sig) → Buf (Elt F) ℓ) (c : Dev nD) : Buf (Elt F) ((c : Thread nD τ).loc main_v1) :=
  fun i => m (((owner c i : Dev nD) : Thread nD τ).loc main_arg0) (within i)

/-- A block copied over a device's own half leaves the gathered array's contents there. -/
theorem half_written (m : (ℓ : Loc nD τ sig) → Buf (Elt F) ℓ) (c : Dev nD) (fd : Buf (Elt F) ((c : Thread nD τ).loc main_v1)) :
    ∀ i ∈ (oHalf c).view.set, (oHalf c).view.write (Elt F) fd ((xAll).view.read (Elt F) (m ((c : Thread nD τ).loc main_arg0))) Finset.univ i
      = gathered m c i := by
  intro i hi
  obtain ⟨x, -, rfl⟩ := Finset.mem_map.mp hi
  rw [View.write_emb_of_mem _ _ (Finset.mem_univ _)]
  have hx : (x 0).val < 8192 := (x 0).isLt
  have h0 : (((oHalf c).view.emb x : S16384x1024.Idx) 0).val = 8192 * side c + (x 0).val := by
    show k0_off2 c 0 + 1 * (x 0).val = _
    rw [k0_off2_eq]; simp [side]
  have h1 : (((oHalf c).view.emb x : S16384x1024.Idx) 1).val = (x 1).val := by
    show k0_off2 c 1 + 1 * (x 1).val = _
    rw [k0_off2_eq]; simp
  have ho : owner c ((oHalf c).view.emb x) = c := by
    unfold owner; rw [if_pos (by rw [h0]; omega)]
  have hw : within ((oHalf c).view.emb x) = x := by
    funext a; apply Fin.ext
    match a with
    | ⟨0, _⟩ => show (((oHalf c).view.emb x : S16384x1024.Idx) 0).val % 8192 = (x 0).val; rw [h0]; omega
    | ⟨1, _⟩ => show (((oHalf c).view.emb x : S16384x1024.Idx) 1).val = (x 1).val; rw [h1]
  show m ((c : Thread nD τ).loc main_arg0) x = m (((owner c ((oHalf c).view.emb x) : Dev nD) : Thread nD τ).loc main_arg0) (within ((oHalf c).view.emb x))
  rw [ho, hw]

/-- A chunk of `c`'s block sent to its place in the partner's result leaves the gathered array's
    contents there. -/
theorem chunk_written (m : (ℓ : Loc nD τ sig) → Buf (Elt F) ℓ) (c : Dev nD) (k : Fin 8) (fd : Buf (Elt F) ((peer c : Thread nD τ).loc main_v1)) :
    ∀ i ∈ (oChunk c k).view.set, (oChunk c k).view.write (Elt F) fd ((xChunk k).view.read (Elt F) (m ((c : Thread nD τ).loc main_arg0))) Finset.univ i
      = gathered m (peer c) i := by
  intro i hi
  obtain ⟨x, -, rfl⟩ := Finset.mem_map.mp hi
  rw [View.write_emb_of_mem _ _ (Finset.mem_univ _)]
  have hx : (x 0).val < 1024 := (x 0).isLt
  have hk := k.isLt
  have h0 : (((oChunk c k).view.emb x : S16384x1024.Idx) 0).val = 8192 * side c + 1024 * k.val + (x 0).val := by
    show k0_off1 c (BitVec.ofNat 32 (1024 * k.val)) 0 + 1 * (x 0).val = _
    rw [k0_off1_eq]; simp [side]
  have h1 : (((oChunk c k).view.emb x : S16384x1024.Idx) 1).val = (x 1).val := by
    show k0_off1 c (BitVec.ofNat 32 (1024 * k.val)) 1 + 1 * (x 1).val = _
    rw [k0_off1_eq]; simp
  have ho : owner (peer c) ((oChunk c k).view.emb x) = c := by
    unfold owner
    rw [if_neg (by rw [h0]; have := side_peer c; omega), peer_peer]
  have hw : within ((oChunk c k).view.emb x) = (xChunk k).view.emb x := by
    funext a; apply Fin.ext
    match a with
    | ⟨0, _⟩ =>
      show (((oChunk c k).view.emb x : S16384x1024.Idx) 0).val % 8192 = 1024 * k.val + 1 * (x 0).val
      rw [h0]; omega
    | ⟨1, _⟩ =>
      show (((oChunk c k).view.emb x : S16384x1024.Idx) 1).val = 0 + 1 * (x 1).val
      rw [h1]; omega
  show m ((c : Thread nD τ).loc main_arg0) ((xChunk k).view.emb x)
    = m (((owner (peer c) ((oChunk c k).view.emb x) : Dev nD) : Thread nD τ).loc main_arg0) (within ((oChunk c k).view.emb x))
  rw [ho, hw]

end Cert.KernelIdeal.Gather

end
-- ==== Proof.Protocol.lean ====
/-
  Who hands what to whom: the seventeen semaphores of a device, each used for one transfer, and what
  the transfer's completion on that semaphore gives to the device waiting on it.
-/
module

public import proofs.«01_k».proof.Proof.Views
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ

local notation "𝕄" => MT nD τ sig Unit (Elt F) ℕ UU ℕ

/-- The rounds discipline's resources are the whole of the proof's own. -/
abbrev ER : Emb UU (MT nD τ sig Unit (Elt F) ℕ UU ℕ) := emb₁

variable (m : (ℓ : Loc nD τ sig) → Buf (Elt F) ℓ)

/-! ## The semaphores -/

/-- What a semaphore is for: the copy of the block, the sending side of a chunk, its receiving side. -/
abbrev Piece : Type := Unit ⊕ Fin 8 ⊕ Fin 8
abbrev pCopy : Piece := .inl ()
abbrev pSend (k : Fin 8) : Piece := .inr (.inl k)
abbrev pRecv (k : Fin 8) : Piece := .inr (.inr k)

/-- The semaphore for each use. -/
def osem : Piece → SemLoc sig
  | .inl _ => copySem
  | .inr (.inl k) => sendSem k
  | .inr (.inr k) => recvSem k

theorem sendSem_index (k : Fin 8) : (semAt cc0_scratch0 k).val = k.val := by revert k; decide +kernel
theorem recvSem_index (k : Fin 8) : (semAt cc0_scratch1 k).val = 8 + k.val := by revert k; decide +kernel
theorem copySem_index : ((cc0_scratch2 : DmaSems sig S_).sem).val = 16 := by decide +kernel

/-- The index of each semaphore among the device's. -/
def indexOf : Piece → ℕ
  | .inl _ => 16
  | .inr (.inl k) => k.val
  | .inr (.inr k) => 8 + k.val

theorem osem_index : ∀ p, ∃ s : DmaSem sig, osem p = .dma s ∧ s.val = indexOf p
  | .inl _ => ⟨_, rfl, copySem_index⟩
  | .inr (.inl k) => ⟨_, rfl, sendSem_index k⟩
  | .inr (.inr k) => ⟨_, rfl, recvSem_index k⟩

theorem indexOf_injective : Function.Injective indexOf := by decide +kernel

/-- The seventeen semaphores are distinct. -/
theorem osem_injective : Function.Injective osem := fun p q h => by
  obtain ⟨s, hs, es⟩ := osem_index p
  obtain ⟨t, ht, et⟩ := osem_index q
  rw [hs, ht] at h
  cases h
  exact indexOf_injective (es.symm.trans et)

/-- Device `c`'s semaphore for a use. -/
abbrev kcell (cp : Dev nD × Piece) : GSem nD τ sig := ((cp.1 : Thread nD τ), osem cp.2)

theorem kcell_injective : Function.Injective kcell := fun x y h => by
  obtain ⟨h1, h2⟩ := Prod.mk.inj h
  exact Prod.ext (Prod.mk.inj h1).1 (osem_injective h2)

/-! ## What a completion gives -/

/-- The credit of a chunk's transfer, -/
def chunkAmount : ℕ := (xChunk 0).view.dmaCredit
/-- and of the block's. -/
def blockAmount : ℕ := xAll.view.dmaCredit

def amountOf : Piece → ℕ
  | .inl _ => blockAmount
  | .inr _ => chunkAmount

theorem chunkAmount_pos : 0 < chunkAmount :=
  View.dmaCredit_pos _ (Shape.numel_pos fun a => by match a with | ⟨0, _⟩ => exact Nat.succ_pos _ | ⟨1, _⟩ => exact Nat.succ_pos _)
theorem blockAmount_pos : 0 < blockAmount :=
  View.dmaCredit_pos _ (Shape.numel_pos fun a => by match a with | ⟨0, _⟩ => exact Nat.succ_pos _ | ⟨1, _⟩ => exact Nat.succ_pos _)

theorem amountOf_pos (p : Piece) : 0 < amountOf p := by
  rcases p with _ | _
  · unfold amountOf; exact blockAmount_pos
  · unfold amountOf; exact chunkAmount_pos

/-- A chunk of `c`'s block, at the half of it the sends use. -/
def xPiece (c : Dev nD) (k : Fin 8) : sProp 𝕄 :=
  (c : Thread nD τ).loc main_arg0 ↦[xSet k]{fullShare.right} m ((c : Thread nD τ).loc main_arg0)
/-- `c`'s whole block, at the half of it the copy uses. -/
def xHeld (c : Dev nD) : sProp 𝕄 :=
  (c : Thread nD τ).loc main_arg0 ↦[(xAll).view.set]{fullShare.left} m ((c : Thread nD τ).loc main_arg0)
/-- The place of the chunk `k` of `c`'s block in the result of `d`, holding `f`. -/
def oPiece (c d : Dev nD) (k : Fin 8) (f : Buf (Elt F) ((d : Thread nD τ).loc main_v1)) : sProp 𝕄 :=
  (d : Thread nD τ).loc main_v1 ↦[oSet c k]{fullShare} f
/-- `c`'s own half of its result, holding `f`. -/
def oOwn (c : Dev nD) (f : Buf (Elt F) ((c : Thread nD τ).loc main_v1)) : sProp 𝕄 :=
  (c : Thread nD τ).loc main_v1 ↦[hSet c]{fullShare} f

/-- What a completion on each of `c`'s semaphores gives `c`: after the copy, its half of the result,
    filled, and the block; after a send, the chunk; after a receive, the place of the partner's chunk,
    filled. -/
def pay (c : Dev nD) : Piece → sProp 𝕄
  | .inl _ => iprop(oOwn c (gathered m c) ∗ xHeld m c)
  | .inr (.inl k) => xPiece m c k
  | .inr (.inr k) => oPiece (peer c) c k (gathered m c)

instance pay_storable (c : Dev nD) (p : Piece) : BI.Storable (upEmb : UEmb _ 𝕄) (pay m c p) := by
  rcases p with _ | _ | _
  · unfold pay oOwn xHeld; infer_instance
  · unfold pay xPiece; infer_instance
  · unfold pay oPiece; infer_instance

/-- What a semaphore is for. -/
def use (s : SemLoc sig) : Piece := (Function.partialInv osem s).getD pCopy

theorem use_osem (p : Piece) : use (osem p) = p := by
  unfold use; rw [Function.partialInv_left osem_injective]; rfl

/-- One completion on each semaphore, of the transfer it is for. -/
def Rd : Rounds.Schedule (GSem nD τ sig) Unit 𝕄 where
  duties _ r := if r = 0 then {()} else ∅
  unitless _ := False
  amount g _ _ := amountOf (use g.2)
  payload g _ _ := pay m g.1.1 (use g.2)
  amount_pos _ _ _ _ := amountOf_pos _

instance Rd_storable (g : GSem nD τ sig) (r : ℕ) (d : Unit) : BI.Storable (upEmb : UEmb _ 𝕄) ((Rd (F := F) m).payload g r d) := by
  show BI.Storable upEmb (pay m g.1.1 (use g.2)); infer_instance

theorem duties_zero (g : GSem nD τ sig) : (Rd (F := F) m).duties g 0 = {()} := by
  show (if (0 : ℕ) = 0 then ({()} : Finset Unit) else ∅) = _; exact if_pos rfl
theorem duties_later (g : GSem nD τ sig) : ∀ r, 1 ≤ r → (Rd (F := F) m).duties g r = ∅ :=
  fun _ hr => if_neg (by omega)
theorem mem_duties (g : GSem nD τ sig) : () ∈ (Rd (F := F) m).duties g 0 := by
  rw [duties_zero]; exact Finset.mem_singleton_self _
theorem amount_cell (c : Dev nD) (p : Piece) : (Rd (F := F) m).amount (kcell (c, p)) 0 () = amountOf p := by
  show amountOf (use (osem p)) = _; rw [use_osem]
theorem payload_cell (c : Dev nD) (p : Piece) : (Rd (F := F) m).payload (kcell (c, p)) 0 () = pay m c p := by
  show pay m c (use (osem p)) = _; rw [use_osem]
theorem expect_cell (c : Dev nD) (p : Piece) : (Rd (F := F) m).expect (kcell (c, p)) 0 = amountOf p := by
  unfold Schedule.expect Schedule.amountOf; rw [duties_zero, Finset.sum_singleton, amount_cell]
theorem rest_cell (c : Dev nD) (p : Piece) :
    bigSep ((Rd (F := F) m).duties (kcell (c, p)) 0 \ ∅) (fun u => (Rd (F := F) m).payload (kcell (c, p)) 0 u) = pay m c p := by
  rw [Finset.sdiff_empty, duties_zero, bigSep_singleton, payload_cell]

/-! ## What a device owes its partner -/

/-- The completion `c` owes its partner for chunk `k`. -/
def due (c : Dev nD) (k : Fin 8) : CellTallies nD τ sig Unit := tallyAt (kcell (peer c, pRecv k)) () chunkAmount

/-- Those still owed when the chunks below `n` are sent. -/
def owedFrom (c : Dev nD) (n : ℕ) : CellTallies nD τ sig Unit :=
  ∑ k ∈ (Finset.univ : Finset (Fin 8)).filter (fun k => n ≤ k.val), due c k

theorem owedFrom_step (c : Dev nD) (k : Fin 8) : owedFrom c k.val = owedFrom c (k.val + 1) + due c k := by
  unfold owedFrom
  rw [show (Finset.univ : Finset (Fin 8)).filter (fun j => k.val ≤ j.val)
      = insert k ((Finset.univ : Finset (Fin 8)).filter (fun j => k.val + 1 ≤ j.val)) from by
    ext j
    simp only [Finset.mem_filter, Finset.mem_univ, true_and, Finset.mem_insert, Fin.ext_iff]; omega]
  rw [Finset.sum_insert (by simp), add_comm]

theorem owedFrom_all (c : Dev nD) : owedFrom c 8 = 0 := by
  unfold owedFrom
  rw [Finset.filter_false_of_mem fun k _ => by have := k.isLt; omega, Finset.sum_empty]

theorem owedFrom_zero (c : Dev nD) : owedFrom c 0 = ∑ k : Fin 8, due c k := by
  unfold owedFrom; rw [Finset.filter_true_of_mem fun _ _ => Nat.zero_le _]

/-- The launch deals each device the credit of what its partner owes it. -/
theorem creds (c : Dev nD) : (Pipeline.launchCred (fun d => owedFrom d 0) c : sProp 𝕄)
    ⊢ bigSep Finset.univ fun k : Fin 8 => cred (tallyAt (kcell (c, pRecv k)) () chunkAmount) := by
  rw [show (fun d : Dev nD => owedFrom d 0) = fun d => ∑ k : Fin 8, due d k from funext owedFrom_zero, Pipeline.launchCred_sum]
  exact bigSep_mono fun k _ => Pipeline.launchCred_tallyAt (osem (pRecv k)) peer peer peer_peer peer_peer () chunkAmount c

/-! ## A walk over the chunks -/

/-- One term taken out of a product over a finite type. -/
theorem take_out {I : Type} [Fintype I] [DecidableEq I] (i : I) (Φ : I → sProp 𝕄) :
    bigSep Finset.univ Φ = iprop(Φ i ∗ bigSep (Finset.univ.erase i) Φ) := BI.bigSep_univ_split i

/-- Each chunk below `n` in state `B`, the others in state `A`. -/
def mixed (A B : Fin 8 → sProp 𝕄) (n : ℕ) : sProp 𝕄 := bigSep Finset.univ fun k : Fin 8 => if k.val < n then B k else A k

theorem mixed_zero (A B : Fin 8 → sProp 𝕄) : mixed A B 0 = bigSep Finset.univ A :=
  bigSep_congr fun k _ => if_neg (Nat.not_lt_zero _)
theorem mixed_all (A B : Fin 8 → sProp 𝕄) : mixed A B 8 = bigSep Finset.univ B :=
  bigSep_congr fun k _ => if_pos k.isLt
/-- The walk's step: chunk `k` is taken in state `A` and put back in state `B`. -/
theorem mixed_step (A B : Fin 8 → sProp 𝕄) (k : Fin 8) : mixed A B k.val ⊢ iprop(A k ∗ (B k -∗ mixed A B (k.val + 1))) := by
  unfold mixed
  rw [take_out k, if_neg (Nat.lt_irrefl _), take_out k (fun j : Fin 8 => if j.val < k.val + 1 then B j else A j),
    if_pos (Nat.lt_succ_self _),
    bigSep_congr (s := Finset.univ.erase k) (Ψ := fun j : Fin 8 => if j.val < k.val + 1 then B j else A j) fun j hj => by
      have hne : j.val ≠ k.val := fun h => (Finset.mem_erase.mp hj).1 (Fin.ext h)
      by_cases h : j.val < k.val
      · rw [if_pos h, if_pos (by omega)]
      · rw [if_neg h, if_neg (by omega)]]
  iintro ⟨HA, HR⟩
  isplitl [HA]; · iexact HA
  iintro HB
  isplitl [HB] <;> iassumption

end Cert.KernelIdeal.Gather

end
-- ==== Proof.Steps.lean ====
/-
  The kernel's steps, each for a chunk's number `k`: the send of the chunk, and the two waits for it
  (for the chunk itself to have left, and for the partner's to have arrived); and the copy of the whole
  block with its wait.
-/
module

public import proofs.«01_k».proof.Proof.Protocol

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Piece → ℕ)

abbrev 𝒱₀ : Variants := Variants.none

/-- That a device's semaphore is governed by the schedule. -/
abbrev inv (c : Dev nD) (p : Piece) : sProp 𝕄 := cellInv ER (Rd m) (K (c, p)) (kcell (c, p))

/-- The credit for one completion on a device's semaphore. -/
abbrev credit (c : Dev nD) (p : Piece) : sProp 𝕄 := cred (tallyAt (kcell (c, p)) () (amountOf p))

/-- The right to complete a device's semaphore. -/
abbrev tok (c : Dev nD) (p : Piece) : sProp 𝕄 := dutyTok ER (kcell (c, p)) 0 ()
/-- A device's position at the start of its semaphore, -/
abbrev pos (c : Dev nD) (p : Piece) : sProp 𝕄 := atPos ER (kcell (c, p)) 0 ∅ 0
/-- that the start is reached, -/
abbrev begun (c : Dev nD) (p : Piece) : sProp 𝕄 := reached ER (kcell (c, p)) 0

/-- One wait, for the one completion on `c`'s semaphore for `p`: its payload comes, and the semaphore is
    at zero for good. -/
theorem wp_wait_piece (c : Dev nD) (p : Piece) {w : TpuEff nD τ sig (Elt F) Λ₀ .tc PUnit}
    (hw : ∀ C : PUnit → sProp 𝕄, wpE (defs₀ (F := F)) 𝒱₀ (c : Thread nD τ) none Set.univ w C = waitSpec (c : Thread nD τ) Set.univ (osem p) (amountOf p) C)
    {α : Type} {Q : α → sProp 𝕄} {k : PUnit → Prog (TpuEff nD τ sig (Elt F) Λ₀ .tc) α} :
    iprop((inv m K c p ∗ credit c p ∗ pos c p) ∗ ∃ W : Waits sig Unit, owes (c : Thread nD τ) 0 W)
      ⊢ iprop(((pay m c p ∗ semVal (kcell (c, p)) 0) ∗ (∃ W : Waits sig Unit, owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨⟨#HI, Hc, Hat⟩, ⟨%W, HO⟩⟩ Hk
  iapply (Rounds.wp_wait_rest_token 𝒱₀ ER (Rd m) (c : Thread nD τ) none (κ := K (c, p)) hw (Set.mem_univ _) ()
      (O := 0) (W := W) (R := 0) (m := 0) (T := ∅) (by rw [Nat.zero_add]; exact (expect_cell m c p).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_cell m c p)) $$ Hpay
  imod (Rounds.cell_close ER (Rd m) (Set.mem_univ (K (c, p))) (fun h => h) (R := 0 + 1) (duties_later m (kcell (c, p)))) $$ [Hat] with Hz
  · isplitr; · iexact HI
    iexact Hat
  iapply Hk
  isplitl [Hp Hz]
  · isplitl [Hp] <;> iassumption
  · iexists _; iexact HO

/-! ## The sends -/

/-- What sending chunk `k` takes, -/
def ToSend (c : Dev nD) (k : Fin 8) : sProp 𝕄 :=
  iprop(inv m K c (pSend k) ∗ inv m K (peer c) (pRecv k) ∗ xPiece m c k ∗ (∃ f, oPiece c (peer c) k f)
    ∗ tok c (pSend k) ∗ begun c (pSend k) ∗ tok (peer c) (pRecv k) ∗ begun (peer c) (pRecv k))
/-- and what it leaves. -/
def Sent (c : Dev nD) (k : Fin 8) : sProp 𝕄 := credit c (pSend k)

theorem wp_send_chunk (c n : Dev nD) (hn : n = peer c) (k : Fin 8)
    {hsc : (oChunk c k : Memref sig (Dev.tc n : Thread nD τ).2.kind .hbm S1024x1024 .f32).view.ref.isScScratch = false}
    {hsrc : (xChunk k).view.WordExact} {hdst : (oChunk c k).view.WordExact}
    {hsem : DmaTarget.Typed .hbm (recvSem k) (.remote (Dev.tc n : Thread nD τ) (oChunk c k) (sendSem k) hsc)}
    {α : Type} {Q : α → sProp 𝕄} {kont : PUnit → Prog (TpuEff nD τ sig (Elt F) Λ₀ .tc) α} (W : Waits sig Unit) :
    iprop(ToSend m K c k ∗ owes (c : Thread nD τ) (owedFrom c k.val) W)
      ⊢ iprop(((Sent c k ∗ owes (c : Thread nD τ) (owedFrom c (k.val + 1)) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xChunk k) (.remote (Dev.tc n : Thread nD τ) (oChunk c k) (sendSem k) hsc) (recvSem k) hsrc hdst hsem) kont) Q) := by
  subst hn
  unfold ToSend xPiece oPiece Sent
  iintro ⟨⟨#HI, #HI', Hx, ⟨%f, Hf⟩, Ht, #Hr, Ht', #Hr'⟩, HO⟩
  iapply (Rounds.wp_send_pointsTo 𝒱₀ ER (Rd m) (c : Thread nD τ) none (κ₁ := K (c, pSend k)) (κ₂ := K (peer c, pRecv k))
    (c' := (peer c : Thread nD τ)) (src := xChunk k) (dst := oChunk c k) (sS := sendSem k) (sem := recvSem k)
    (r₁ := 0) (r₂ := 0) (d₁ := ()) (d₂ := ()) (fd := f) (q := fullShare.right) (fs := m ((c : Thread nD τ).loc main_arg0))
    (mem_duties m (kcell (c, pSend k))) (mem_duties m (kcell (peer c, pRecv k)))
    () () chunkAmount rfl (amount_cell m c (pSend k)) (amount_cell m (peer c) (pRecv k)) (owedFrom c (k.val + 1)) (owedFrom_step c k) (W := W)
    (by
      have h := payload_cell m c (pSend k)
      exact Entails.of_eq h.symm)
    (by
      have h := payload_cell m (peer c) (pRecv k)
      refine Entails.of_eq (Eq.trans ?_ h.symm)
      unfold pay oPiece; rw [peer_peer]
      exact pointsTo_congr (chunk_written m c k f))) $$ [Hx Hf HO Ht Ht']
  isplitr; · iexact HI
  isplitr; · iexact HI'
  isplitl [Hx]; · iexact Hx
  isplitl [Hf]; · iexact Hf
  isplitl [HO]; · iexact HO
  isplitl [Ht]; · iexact Ht
  isplitr; · iexact Hr
  isplitl [Ht']; · iexact Ht'
  iexact Hr'

/-- The send of chunk `k`, on the walk over the chunks. -/
theorem wp_send_step (c n : Dev nD) (hn : n = peer c) (k : Fin 8) (i j : ℕ) (hi : k.val = i) (hj : k.val + 1 = j)
    {hsc : (oChunk c k : Memref sig (Dev.tc n : Thread nD τ).2.kind .hbm S1024x1024 .f32).view.ref.isScScratch = false}
    {hsrc : (xChunk k).view.WordExact} {hdst : (oChunk c k).view.WordExact}
    {hsem : DmaTarget.Typed .hbm (recvSem k) (.remote (Dev.tc n : Thread nD τ) (oChunk c k) (sendSem k) hsc)}
    {α : Type} {Q : α → sProp 𝕄} {kont : PUnit → Prog (TpuEff nD τ sig (Elt F) Λ₀ .tc) α} (W : Waits sig Unit) :
    iprop(mixed (ToSend m K c) (Sent c) i ∗ owes (c : Thread nD τ) (owedFrom c i) W)
      ⊢ iprop(((mixed (ToSend m K c) (Sent c) j ∗ owes (c : Thread nD τ) (owedFrom c j) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xChunk k) (.remote (Dev.tc n : Thread nD τ) (oChunk c k) (sendSem k) hsc) (recvSem k) hsrc hdst hsem) kont) Q) := by
  subst hi hj
  iintro ⟨HM, HO⟩ Hk
  ihave H := (mixed_step (ToSend m K c) (Sent c) k) $$ HM
  icases H with ⟨HA, HB⟩
  iapply (wp_send_chunk m K c n hn k W) $$ [HA HO]
  · isplitl [HA] <;> iassumption
  iintro ⟨HS, HO⟩
  iapply Hk
  isplitl [HB HS]
  · iapply HB; iexact HS
  · iexact HO

/-! ## The waits for a chunk -/

/-- What the waits for chunk `k` take, -/
def ToWait (c : Dev nD) (k : Fin 8) : sProp 𝕄 :=
  iprop((inv m K c (pSend k) ∗ credit c (pSend k) ∗ pos c (pSend k)) ∗ (inv m K c (pRecv k) ∗ credit c (pRecv k) ∗ pos c (pRecv k)))
/-- and what they leave: the chunk, the partner's chunk in the result, both semaphores at zero. -/
def Waited (c : Dev nD) (k : Fin 8) : sProp 𝕄 :=
  iprop((pay m c (pSend k) ∗ semVal (kcell (c, pSend k)) 0) ∗ (pay m c (pRecv k) ∗ semVal (kcell (c, pRecv k)) 0))

/-- The two waits for chunk `k`, on the walk over the chunks. -/
theorem wp_wait_step (c : Dev nD) (k : Fin 8) (i j : ℕ) (hi : k.val = i) (hj : k.val + 1 = j)
    {h₁ : (oChunk c k).view.WordExact} {h₂ : (xChunk k).view.WordExact} {h₃ : (xChunk k).view.WordExact} {h₄ : (oChunk c k).view.WordExact}
    {α : Type} {Q : α → sProp 𝕄} {kont : PUnit → Prog (TpuEff nD τ sig (Elt F) Λ₀ .tc) α} :
    iprop(mixed (ToWait m K c) (Waited m c) i ∗ ∃ W : Waits sig Unit, owes (c : Thread nD τ) 0 W)
      ⊢ iprop(((mixed (ToWait m K c) (Waited m c) j ∗ ∃ W : Waits sig Unit, owes (c : Thread nD τ) 0 W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (semAt cc0_scratch0 k) (oChunk c k) (xChunk k) h₁ h₂) fun _ => .op (.waitDma2 (semAt cc0_scratch1 k) (xChunk k) (oChunk c k) h₃ h₄) kont) Q) := by
  subst hi hj
  iintro ⟨HM, HO⟩ Hk
  ihave H := (mixed_step (ToWait m K c) (Waited m c) k) $$ HM
  unfold ToWait Waited
  icases H with ⟨⟨HA, HA'⟩, HB⟩
  iapply (wp_wait_piece m K c (pSend k) (w := .waitDma2 (semAt cc0_scratch0 k) (oChunk c k) (xChunk k) h₁ h₂)
    (fun C => (wpE_waitDma2_eq 𝒱₀ (c : Thread nD τ) none Set.univ C).trans rfl)) $$ [HA HO]
  · isplitl [HA] <;> iassumption
  iintro ⟨HP, HO⟩
  iapply (wp_wait_piece m K c (pRecv k) (w := .waitDma2 (semAt cc0_scratch1 k) (xChunk k) (oChunk c k) h₃ h₄)
    (fun C => (wpE_waitDma2_eq 𝒱₀ (c : Thread nD τ) none Set.univ C).trans rfl)) $$ [HA' HO]
  · isplitl [HA'] <;> iassumption
  iintro ⟨HP', HO⟩
  iapply Hk
  isplitl [HB HP HP']
  · iapply HB; isplitl [HP] <;> iassumption
  · iexact HO

/-! ## The copy of the block -/

/-- What the copy and its wait take. -/
def ToCopy (c : Dev nD) : sProp 𝕄 :=
  iprop(inv m K c pCopy ∗ pos c pCopy ∗ tok c pCopy ∗ begun c pCopy ∗ xHeld m c ∗ ∃ f, oOwn c f)

/-- The copy of the block into the device's own half of its result, and the wait for it. -/
theorem wp_copy_block (c : Dev nD) {hsrc : xAll.view.WordExact} {hdst : (oHalf c).view.WordExact}
    {hsem : DmaTarget.Typed (nD := nD) (τ := τ) (p := (c : Thread nD τ).2) .hbm copySem (.here (oHalf c))}
    {h₁ : xAll.view.WordExact} {h₂ : (oHalf c).view.WordExact}
    {α : Type} {Q : α → sProp 𝕄} {kont : PUnit → Prog (TpuEff nD τ sig (Elt F) Λ₀ .tc) α} :
    iprop(ToCopy m K c ∗ ∃ W : Waits sig Unit, owes (c : Thread nD τ) 0 W)
      ⊢ iprop((((pay m c pCopy ∗ semVal (kcell (c, pCopy)) 0) ∗ ∃ W : Waits sig Unit, owes (c : Thread nD τ) 0 W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma xAll (.here (oHalf c)) copySem hsrc hdst hsem)
                fun _ => .op (.waitDma2 (cc0_scratch2 : DmaSems sig S_).sem xAll (oHalf c) h₁ h₂) kont) Q) := by
  unfold ToCopy xHeld oOwn
  iintro ⟨⟨#HI, Hat, Ht, #Hr, Hx, ⟨%f, Hf⟩⟩, HO⟩ Hk
  iapply (Rounds.wp_copy_pointsTo 𝒱₀ ER (Rd m) (c : Thread nD τ) none (κ := K (c, pCopy)) (src := xAll) (dst := oHalf c) (sem := copySem)
    (r := 0) (d := ()) (fd := f) (q := fullShare.left) (fs := m ((c : Thread nD τ).loc main_arg0))
    (mem_duties m (kcell (c, pCopy))) () blockAmount rfl (amount_cell m c pCopy)
    (by
      have h := payload_cell m c pCopy
      refine Entails.of_eq (Eq.trans ?_ h.symm)
      unfold pay oOwn xHeld
      exact congrArg (fun P : sProp 𝕄 => iprop(P ∗ _)) (pointsTo_congr (half_written m c f)))) $$ [Hx Hf Ht]
  · isplitr; · iexact HI
    isplitl [Hx]; · iexact Hx
    isplitl [Hf]; · iexact Hf
    isplitl [Ht]; · iexact Ht
    iexact Hr
  iintro Hc
  iapply (wp_wait_piece m K c pCopy (w := .waitDma2 (cc0_scratch2 : DmaSems sig S_).sem xAll (oHalf c) h₁ h₂)
    (fun C => (wpE_waitDma2_eq 𝒱₀ (c : Thread nD τ) none Set.univ C).trans rfl)) $$ [Hc Hat HO]
  · isplitl [Hc Hat]
    · isplitr; · iexact HI
      isplitl [Hc]; · iexact Hc
      iexact Hat
    · iexact HO
  iintro H
  iapply Hk; iexact H

end Cert.KernelIdeal.Gather

end
-- ==== Proof.Body.lean ====
/-
  The kernel's body: the eight sends, the copy of the block, the eight pairs of waits.
-/
module

public import proofs.«01_k».proof.Proof.Steps
public import proofs.«01_k».proof.Proof.Gen.KernelIdeal.Points

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Piece → ℕ)

/-- What the waits for chunk `k` take, but for the credit that sending it gives. -/
def Expecting (c : Dev nD) (k : Fin 8) : sProp 𝕄 :=
  iprop((inv m K c (pSend k) ∗ pos c (pSend k)) ∗ (inv m K c (pRecv k) ∗ credit c (pRecv k) ∗ pos c (pRecv k)))

/-- What the body starts from, -/
def Begin (c : Dev nD) : sProp 𝕄 :=
  iprop(bigSep Finset.univ (ToSend m K c) ∗ bigSep Finset.univ (Expecting m K c) ∗ ToCopy m K c)
/-- and what it ends with. -/
def End (c : Dev nD) : sProp 𝕄 :=
  iprop((pay m c pCopy ∗ semVal (kcell (c, pCopy)) 0) ∗ bigSep Finset.univ (Waited m c))

/-- A chunk sent, the waits for it can start; -/
theorem expecting_sent_one (c : Dev nD) (k : Fin 8) : iprop(Expecting m K c k ∗ Sent (F := F) c k) ⊢ ToWait m K c k := by
  unfold Expecting Sent ToWait
  iintro ⟨⟨⟨H1, H2⟩, H3⟩, H4⟩
  isplitl [H1 H2 H4]
  · isplitl [H1]; · iexact H1
    isplitl [H4] <;> iassumption
  · iexact H3

/-- all sent, all can. -/
theorem expecting_sent (c : Dev nD) :
    iprop(bigSep Finset.univ (Expecting m K c) ∗ bigSep Finset.univ (Sent (F := F) c)) ⊢ bigSep Finset.univ (ToWait m K c) := by
  rw [← bigSep_sep']
  exact bigSep_mono fun k _ => expecting_sent_one m K c k

set_option maxRecDepth 20000 in
set_option maxHeartbeats 1600000 in
theorem sound_body (c : Dev nD) (Kt : PUnit → sProp 𝕄) :
    iprop((Begin m K c ∗ ∃ W : Waits sig Unit, owes (c : Thread nD τ) (owedFrom c 0) W)
        ∗ ((End m c ∗ ∃ W : Waits sig Unit, owes (c : Thread nD τ) 0 W) -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            cc0_scratch0 cc0_scratch1 cc0_scratch2) Kt := by
  unfold Begin
  iintro ⟨⟨⟨HS, HX, HC⟩, ⟨%W, HO⟩⟩, Hk⟩
  simp only [cc0_body_eq_skeleton]; unfold cc0_body_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  ihave HS := (Entails.of_eq (mixed_zero (ToSend m K c) (Sent c)).symm) $$ HS
  iapply (wp_send_step m K c _ (dev_eq c (k0_dev1_lt c) (k0_dev1_eq c)) 0 0 1 rfl rfl W) $$ [HS HO]
  · isplitl [HS] <;> iassumption
  iintro ⟨HS, HO⟩
  iapply (wp_send_step m K c _ (dev_eq c (k0_dev2_lt c) (k0_dev2_eq c)) 1 1 2 rfl rfl W) $$ [HS HO]
  · isplitl [HS] <;> iassumption
  iintro ⟨HS, HO⟩
  iapply (wp_send_step m K c _ (dev_eq c (k0_dev3_lt c) (k0_dev3_eq c)) 2 2 3 rfl rfl W) $$ [HS HO]
  · isplitl [HS] <;> iassumption
  iintro ⟨HS, HO⟩
  iapply (wp_send_step m K c _ (dev_eq c (k0_dev4_lt c) (k0_dev4_eq c)) 3 3 4 rfl rfl W) $$ [HS HO]
  · isplitl [HS] <;> iassumption
  iintro ⟨HS, HO⟩
  iapply (wp_send_step m K c _ (dev_eq c (k0_dev5_lt c) (k0_dev5_eq c)) 4 4 5 rfl rfl W) $$ [HS HO]
  · isplitl [HS] <;> iassumption
  iintro ⟨HS, HO⟩
  iapply (wp_send_step m K c _ (dev_eq c (k0_dev6_lt c) (k0_dev6_eq c)) 5 5 6 rfl rfl W) $$ [HS HO]
  · isplitl [HS] <;> iassumption
  iintro ⟨HS, HO⟩
  iapply (wp_send_step m K c _ (dev_eq c (k0_dev7_lt c) (k0_dev7_eq c)) 6 6 7 rfl rfl W) $$ [HS HO]
  · isplitl [HS] <;> iassumption
  iintro ⟨HS, HO⟩
  iapply (wp_send_step m K c _ (dev_eq c (k0_dev8_lt c) (k0_dev8_eq c)) 7 7 8 rfl rfl W) $$ [HS HO]
  · isplitl [HS] <;> iassumption
  iintro ⟨HS, HO⟩
  ihave HS := (Entails.of_eq (mixed_all (ToSend m K c) (Sent c))) $$ HS
  ihave HO := (Entails.of_eq (congrArg (fun O => owes (c : Thread nD τ) O W) (owedFrom_all c))) $$ HO
  iapply (wp_copy_block m K c) $$ [HC HO]
  · isplitl [HC]; · iexact HC
    iexists W; iexact HO
  iintro ⟨HC, HO⟩
  ihave HX := (expecting_sent m K c) $$ [HX HS]
  · isplitl [HX] <;> iassumption
  ihave HX := (Entails.of_eq (mixed_zero (ToWait m K c) (Waited m c)).symm) $$ HX
  iapply (wp_wait_step m K c 0 0 1 rfl rfl) $$ [HX HO]
  · isplitl [HX] <;> iassumption
  iintro ⟨HX, HO⟩
  iapply (wp_wait_step m K c 1 1 2 rfl rfl) $$ [HX HO]
  · isplitl [HX] <;> iassumption
  iintro ⟨HX, HO⟩
  iapply (wp_wait_step m K c 2 2 3 rfl rfl) $$ [HX HO]
  · isplitl [HX] <;> iassumption
  iintro ⟨HX, HO⟩
  iapply (wp_wait_step m K c 3 3 4 rfl rfl) $$ [HX HO]
  · isplitl [HX] <;> iassumption
  iintro ⟨HX, HO⟩
  iapply (wp_wait_step m K c 4 4 5 rfl rfl) $$ [HX HO]
  · isplitl [HX] <;> iassumption
  iintro ⟨HX, HO⟩
  iapply (wp_wait_step m K c 5 5 6 rfl rfl) $$ [HX HO]
  · isplitl [HX] <;> iassumption
  iintro ⟨HX, HO⟩
  iapply (wp_wait_step m K c 6 6 7 rfl rfl) $$ [HX HO]
  · isplitl [HX] <;> iassumption
  iintro ⟨HX, HO⟩
  iapply (wp_wait_step m K c 7 7 8 rfl rfl) $$ [HX HO]
  · isplitl [HX] <;> iassumption
  iintro ⟨HX, HO⟩
  ihave HX := (Entails.of_eq (mixed_all (ToWait m K c) (Waited m c))) $$ HX
  rw [wp_ret]; imodintro
  iapply Hk
  unfold End
  isplitr [HO]
  · isplitl [HC] <;> iassumption
  · iexact HO

end Cert.KernelIdeal.Gather

end
-- ==== Proof.Deal.lean ====
/-
  The start: each device's buffers cut into the pieces the transfers move, the places for the incoming
  chunks handed to the partner that fills them, every semaphore put under the schedule; and the end: the
  pieces put together again.
-/
module

public import proofs.«01_k».proof.Proof.Body

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's buffers in pieces -/

/-- A block is its half for the copy and the chunks, at the other half, for the sends. -/
theorem block_pieces (c : Dev nD) :
    ((c : Thread nD τ).loc main_arg0 ↦{fullShare} m ((c : Thread nD τ).loc main_arg0) : sProp 𝕄)
      ⊣⊢ iprop(xHeld m c ∗ bigSep Finset.univ (xPiece m c)) := by
  have hx : (bigSep Finset.univ (xPiece m c) : sProp 𝕄)
      = ((c : Thread nD τ).loc main_arg0 ↦{fullShare.right} m ((c : Thread nD τ).loc main_arg0)) := by
    have h := pointsTo_biUnion (Ix := Unit) (Name := ℕ) (U := UU) (Lvl := ℕ) (q := fullShare.right)
      (f := m ((c : Thread nD τ).loc main_arg0)) (Finset.univ : Finset (Fin 8)) xSet xSet_disjoint
    rw [xSet_cover] at h
    exact h.symm
  have hh : (xHeld m c : sProp 𝕄)
      = ((c : Thread nD τ).loc main_arg0 ↦{fullShare.left} m ((c : Thread nD τ).loc main_arg0)) := by
    unfold xHeld; rw [show (xAll).view.set = Finset.univ from View.set_whole _]
  rw [hx, hh]
  exact pointsTo_share (PosShare.mem_left_op_right fullShare)

/-- A result is the device's own half and the places of the partner's chunks. -/
theorem result_pieces (c : Dev nD) (f : Buf (Elt F) ((c : Thread nD τ).loc main_v1)) :
    ((c : Thread nD τ).loc main_v1 ↦{fullShare} f : sProp 𝕄)
      ⊣⊢ iprop(oOwn c f ∗ bigSep Finset.univ fun k => oPiece (peer c) c k f) := by
  have ho : (bigSep Finset.univ (fun k => oPiece (peer c) c k f) : sProp 𝕄)
      = ((c : Thread nD τ).loc main_v1 ↦[Finset.univ \ hSet c]{fullShare} f) := by
    have h := pointsTo_biUnion (Ix := Unit) (Name := ℕ) (U := UU) (Lvl := ℕ) (q := fullShare)
      (f := f) (Finset.univ : Finset (Fin 8)) (oSet (peer c)) (oSet_disjoint (peer c))
    rw [oSet_cover] at h
    exact h.symm
  rw [ho]
  exact pointsTo_split_subset (Finset.subset_univ _)

/-- A product over a device's semaphores: the copy's, the sends', the receives'. -/
theorem over_pieces (Φ : Piece → sProp 𝕄) :
    bigSep Finset.univ Φ = iprop(Φ pCopy ∗ (bigSep Finset.univ fun k => Φ (pSend k)) ∗ bigSep Finset.univ fun k => Φ (pRecv k)) := by
  have h := bigSep_univ_sum Φ
  rw [bigSep_univ_sum (fun q => Φ (.inr q)), bigSep_univ_of_subsingleton (Φ := fun u => Φ (.inl u)) ()] at h
  exact h

/-- Along a product, a persistent fact serves every factor. -/
theorem along {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  have h1 : (bigSep S fun i => iprop(R ∗ Φ i) : sProp 𝕄) = iprop((bigSep S fun _ => R) ∗ bigSep S Φ) := bigSep_sep' _ _ _
  have h2 : (bigSep S fun i => iprop(R ∗ Φ i) : sProp 𝕄) ⊢ bigSep S Ψ := bigSep_mono fun i _ => h i
  iintro ⟨#HR, HΦ⟩
  iapply h2
  iapply (Entails.of_eq h1.symm)
  isplitr
  · iapply (BI.bigSep_of_persistent S R); iexact HR
  · iexact HΦ

/-! ## What every device knows, and what it gets -/

variable (K : Dev nD × Piece → ℕ)

/-- Every semaphore of every device is under the schedule, and at its start. -/
def Known : sProp 𝕄 :=
  iprop((bigSep Finset.univ fun x : Dev nD × Piece => cellInv ER (Rd m) (K x) (kcell x))
    ∗ bigSep Finset.univ fun x : Dev nD × Piece => reached ER (kcell x) 0)
instance Known_persistent : BI.Persistent (Known m K) := by unfold Known; infer_instance

theorem known_inv (c : Dev nD) (p : Piece) : Known m K ⊢ inv m K c p :=
  sep_elim_left.trans (bigSep_elim (Finset.mem_univ (c, p)))
theorem known_begun (c : Dev nD) (p : Piece) : Known m K ⊢ begun c p :=
  sep_elim_right.trans (bigSep_elim (Finset.mem_univ (c, p)))

/-- A device's stock for sending chunk `k`, -/
def SendStock (c : Dev nD) (k : Fin 8) : sProp 𝕄 :=
  iprop(xPiece m c k ∗ (∃ f, oPiece c (peer c) k f) ∗ tok c (pSend k) ∗ tok (peer c) (pRecv k))
/-- for the waits for chunk `k`, -/
def WaitStock (c : Dev nD) (k : Fin 8) : sProp 𝕄 :=
  iprop(pos c (pSend k) ∗ pos c (pRecv k) ∗ credit c (pRecv k))
/-- and for the copy. -/
def CopyStock (c : Dev nD) : sProp 𝕄 :=
  iprop(pos c pCopy ∗ tok c pCopy ∗ xHeld m c ∗ ∃ f, oOwn c f)

theorem toSend_of_stock (c : Dev nD) (k : Fin 8) : iprop(Known m K ∗ SendStock m c k) ⊢ ToSend m K c k := by
  unfold SendStock ToSend
  iintro ⟨#HK, Hx, Ho, Ht, Ht'⟩
  isplitr; · iapply (known_inv m K c (pSend k)); iexact HK
  isplitr; · iapply (known_inv m K (peer c) (pRecv k)); iexact HK
  isplitl [Hx]; · iexact Hx
  isplitl [Ho]; · iexact Ho
  isplitl [Ht]; · iexact Ht
  isplitr; · iapply (known_begun m K c (pSend k)); iexact HK
  isplitl [Ht']; · iexact Ht'
  iapply (known_begun m K (peer c) (pRecv k)); iexact HK

theorem expecting_of_stock (c : Dev nD) (k : Fin 8) : iprop(Known m K ∗ WaitStock c k) ⊢ Expecting m K c k := by
  unfold WaitStock Expecting
  iintro ⟨#HK, Hs, Hr, Hc⟩
  isplitl [Hs]
  · isplitr; · iapply (known_inv m K c (pSend k)); iexact HK
    iexact Hs
  isplitr; · iapply (known_inv m K c (pRecv k)); iexact HK
  isplitl [Hc] <;> iassumption

theorem toCopy_of_stock (c : Dev nD) : iprop(Known m K ∗ CopyStock m c) ⊢ ToCopy m K c := by
  unfold CopyStock ToCopy
  iintro ⟨#HK, Hp, Ht, Hx, Ho⟩
  isplitr; · iapply (known_inv m K c pCopy); iexact HK
  isplitl [Hp]; · iexact Hp
  isplitl [Ht]; · iexact Ht
  isplitr; · iapply (known_begun m K c pCopy); iexact HK
  isplitl [Hx] <;> iassumption

/-- All a device gets. -/
def Stock (c : Dev nD) : sProp 𝕄 :=
  iprop(bigSep Finset.univ (SendStock m c) ∗ bigSep Finset.univ (WaitStock c) ∗ CopyStock m c)

theorem begin_of_stock (c : Dev nD) : iprop(Known m K ∗ Stock m c) ⊢ iprop(∃ K, Begin m K c) := by
  unfold Stock Begin
  iintro ⟨#HK, Hs, Hw, Hc⟩
  iexists K
  isplitl [Hs]
  · iapply (along (R := Known m K) (Ψ := ToSend m K c) (toSend_of_stock m K c)); isplitr; · iexact HK
    iexact Hs
  isplitl [Hw]
  · iapply (along (R := Known m K) (Ψ := Expecting m K c) (expecting_of_stock m K c)); isplitr; · iexact HK
    iexact Hw
  iapply (toCopy_of_stock m K c); isplitr; · iexact HK
  iexact Hc

/-! ## Dealing the stocks -/

/-- What the launch finds on a device: its two buffers, the credit of what its partner owes it, its
    positions and the rights to complete its semaphores. -/
def Found (c : Dev nD) : sProp 𝕄 :=
  iprop((((c : Thread nD τ).loc main_arg0 ↦{fullShare} m ((c : Thread nD τ).loc main_arg0))
      ∗ ((c : Thread nD τ).loc main_v1 ↦{fullShare} m ((c : Thread nD τ).loc main_v1)))
    ∗ Pipeline.launchCred (fun d => owedFrom d 0) c
    ∗ bigSep Finset.univ (pos c) ∗ bigSep Finset.univ (tok c))

/-- The same in pieces. -/
def FoundPieces (c : Dev nD) : sProp 𝕄 :=
  iprop(xHeld m c ∗ bigSep Finset.univ (xPiece m c) ∗ (∃ f, oOwn c f) ∗ (bigSep Finset.univ fun k => iprop(∃ f, oPiece (peer c) c k f))
    ∗ (bigSep Finset.univ fun k => credit c (pRecv k))
    ∗ (pos c pCopy ∗ (bigSep Finset.univ fun k => pos c (pSend k)) ∗ bigSep Finset.univ fun k => pos c (pRecv k))
    ∗ (tok c pCopy ∗ (bigSep Finset.univ fun k => tok c (pSend k)) ∗ bigSep Finset.univ fun k => tok c (pRecv k)))

theorem some_piece (c : Dev nD) (f : Buf (Elt F) ((c : Thread nD τ).loc main_v1)) (k : Fin 8) :
    (oPiece (peer c) c k f : sProp 𝕄) ⊢ iprop(∃ f, oPiece (peer c) c k f) := by
  iintro H; iexists f; iexact H

theorem some_pieces (c : Dev nD) (f : Buf (Elt F) ((c : Thread nD τ).loc main_v1)) :
    (bigSep Finset.univ fun k => oPiece (peer c) c k f : sProp 𝕄) ⊢ bigSep Finset.univ fun k => iprop(∃ f, oPiece (peer c) c k f) :=
  bigSep_mono fun k _ => some_piece c f k

theorem found_pieces (c : Dev nD) : Found m c ⊢ FoundPieces m c := by
  unfold Found FoundPieces
  iintro ⟨⟨Hx, Ho⟩, Hc, Hp, Ht⟩
  ihave Hx' := (block_pieces m c).1 $$ Hx
  icases Hx' with ⟨Hx, Hxs⟩
  ihave Ho' := (result_pieces c _).1 $$ Ho
  icases Ho' with ⟨Ho, Hos⟩
  ihave Hp' := (Entails.of_eq (over_pieces (pos c))) $$ Hp
  ihave Ht' := (Entails.of_eq (over_pieces (tok c))) $$ Ht
  isplitl [Hx]; · iexact Hx
  isplitl [Hxs]; · iexact Hxs
  isplitl [Ho]; · iexists _; iexact Ho
  isplitl [Hos]; · iapply (some_pieces c (m ((c : Thread nD τ).loc main_v1))); iexact Hos
  isplitl [Hc]; · iapply (creds (F := F) c); iexact Hc
  isplitl [Hp'] <;> iassumption

/-- A product over the devices, each factor handed to the partner. -/
theorem to_partner (Φ : Dev nD → sProp 𝕄) : bigSep Finset.univ Φ = bigSep Finset.univ fun c => Φ (peer c) :=
  bigSep_univ_equiv swap Φ

theorem stocks_of_pieces : bigSep Finset.univ (FoundPieces m) ⊢ bigSep Finset.univ (Stock m) := by
  unfold FoundPieces Stock SendStock WaitStock CopyStock
  simp only [bigSep_sep']
  iintro ⟨Hx, Hxs, Ho, Hos, Hc, ⟨Hp0, Hp1, Hp2⟩, ⟨Ht0, Ht1, Ht2⟩⟩
  ihave Hos' := (Entails.of_eq (to_partner fun c : Dev nD => bigSep Finset.univ fun k => iprop(∃ f, oPiece (peer c) c k f))) $$ Hos
  ihave Ht2' := (Entails.of_eq (to_partner fun c : Dev nD => bigSep Finset.univ fun k => tok c (pRecv k))) $$ Ht2
  simp only [peer_peer]
  isplitl [Hxs Hos' Ht1 Ht2']
  · isplitl [Hxs]; · iexact Hxs
    isplitl [Hos']; · iexact Hos'
    isplitl [Ht1] <;> iassumption
  isplitl [Hp1 Hp2 Hc]
  · isplitl [Hp1]; · iexact Hp1
    isplitl [Hp2] <;> iassumption
  isplitl [Hp0]; · iexact Hp0
  isplitl [Ht0]; · iexact Ht0
  isplitl [Hx] <;> iassumption

/-- The stocks dealt: the places of a device's incoming chunks and the rights to complete its receive
    semaphores go to its partner, the rest stays. -/
theorem stocks : bigSep Finset.univ (Found m) ⊢ bigSep Finset.univ (Stock m) :=
  (bigSep_mono fun c _ => found_pieces m c).trans (stocks_of_pieces m)

/-! ## The end -/

/-- What a device has at the end: its block as it was, its result gathered, its semaphores at zero. -/
theorem pieces_together (c : Dev nD) :
    End m c ⊢ iprop((((c : Thread nD τ).loc main_arg0 ↦{fullShare} m ((c : Thread nD τ).loc main_arg0))
        ∗ ((c : Thread nD τ).loc main_v1 ↦{fullShare} gathered m c))
      ∗ bigSep Finset.univ fun p => semVal (kcell (c, p)) 0) := by
  unfold End Waited pay
  simp only [bigSep_sep']
  iintro ⟨⟨⟨Ho, Hx⟩, Hz0⟩, ⟨Hxs, Hz1⟩, ⟨Hos, Hz2⟩⟩
  isplitl [Ho Hx Hxs Hos]
  · isplitl [Hx Hxs]
    · iapply (block_pieces m c).2; isplitl [Hx] <;> iassumption
    · iapply (result_pieces c (gathered m c)).2; isplitl [Ho] <;> iassumption
  · iapply (Entails.of_eq (over_pieces fun p => semVal (kcell (c, p)) 0).symm)
    isplitl [Hz0]; · iexact Hz0
    isplitl [Hz1] <;> iassumption

end Cert.KernelIdeal.Gather

end
-- ==== Proof.Start.lean ====
/-
  The launch's common step: from the semaphores of all the devices at zero and what the launch finds on
  each, every semaphore is put under the schedule and each device gets all its kernel starts from.
-/
module

public import proofs.«01_k».proof.Proof.Deal

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The schedule's launch state -/

/-- Every semaphore of every device, -/
def allCells : Finset (GSem nD τ sig) := Finset.univ.map ⟨kcell, kcell_injective⟩
/-- and the right to its one completion. -/
def allToks : Finset (GSem nD τ sig × ℕ × Unit) :=
  Finset.univ.map ⟨fun x : Dev nD × Piece => (kcell x, 0, ()), fun _ _ h => kcell_injective (Prod.mk.inj h).1⟩

def u₀ : UU := initOf allCells allToks

/-- A device's part of the launch state. -/
def Ghost (c : Dev nD) : sProp 𝕄 :=
  iprop((bigSep Finset.univ fun p => roundState ER (Rd m) (kcell (c, p)) 0) ∗ bigSep Finset.univ (begun c)
    ∗ bigSep Finset.univ (pos c) ∗ bigSep Finset.univ (tok c))

theorem over_cells (Φ : GSem nD τ sig → sProp 𝕄) :
    bigSep allCells Φ = bigSep Finset.univ fun c : Dev nD => bigSep Finset.univ fun p => Φ (kcell (c, p)) := by
  unfold allCells; rw [bigSep_map]; exact bigSep_univ_prod _

theorem over_toks (Φ : GSem nD τ sig × ℕ × Unit → sProp 𝕄) :
    bigSep allToks Φ = bigSep Finset.univ fun c : Dev nD => bigSep Finset.univ fun p => Φ (kcell (c, p), 0, ()) := by
  unfold allToks; rw [bigSep_map]; exact bigSep_univ_prod _

theorem fund_all : (ownU u₀ : sProp 𝕄) ⊢ |==> bigSep Finset.univ (Ghost m) := by
  have h : (ownU u₀ : sProp 𝕄) ⊢ BI.own (ER (initOf allCells allToks)) := BI.Entails.refl _
  iintro Hu
  ihave Hu' := h $$ Hu
  imod (Rounds.fund ER (Rd m) allCells allToks) $$ Hu' with ⟨Hs, Hr, Hp, Ht⟩
  imodintro
  ihave Hs' := (Entails.of_eq (over_cells fun g => roundState ER (Rd m) g 0)) $$ Hs
  ihave Hr' := (Entails.of_eq (over_cells fun g => reached ER g 0)) $$ Hr
  ihave Hp' := (Entails.of_eq (over_cells fun g => atPos ER g 0 ∅ 0)) $$ Hp
  ihave Ht' := (Entails.of_eq (over_toks fun x => dutyTok ER x.1 x.2.1 x.2.2)) $$ Ht
  unfold Ghost
  simp only [bigSep_sep']
  isplitl [Hs']; · iexact Hs'
  isplitl [Hr']; · iexact Hr'
  isplitl [Hp'] <;> iassumption

/-! ## The semaphores under the schedule -/

/-- A semaphore's counter at zero with its launch state becomes a record that the schedule governs it. -/
theorem govern_one (c : Dev nD) (p : Piece) :
    iprop(semVal (kcell (c, p)) 0 ∗ roundState ER (Rd m) (kcell (c, p)) 0)
      ⊢ |={Set.univ}=> iprop(∃ κ : ℕ, cellInv ER (Rd m) κ (kcell (c, p))) :=
  (Rounds.body_intro ER (Rd m) (kcell (c, p))).trans inv_alloc

theorem govern_device (c : Dev nD) :
    iprop((bigSep Finset.univ fun p => semVal (kcell (c, p)) 0) ∗ bigSep Finset.univ fun p => roundState ER (Rd m) (kcell (c, p)) 0)
      ⊢ |={Set.univ}=> bigSep Finset.univ fun p => iprop(∃ κ : ℕ, cellInv ER (Rd m) κ (kcell (c, p))) := by
  have h : (bigSep Finset.univ fun p => iprop(semVal (kcell (c, p)) 0 ∗ roundState ER (Rd m) (kcell (c, p)) 0) : sProp 𝕄)
      = iprop((bigSep Finset.univ fun p => semVal (kcell (c, p)) 0) ∗ bigSep Finset.univ fun p => roundState ER (Rd m) (kcell (c, p)) 0) :=
    bigSep_sep' _ _ _
  rw [← h]
  exact (bigSep_mono fun p _ => govern_one m c p).trans (bigSep_fupd _ _)

/-! ## The step -/

/-- What the common step takes of a device. -/
def Given (c : Dev nD) : sProp 𝕄 :=
  iprop((bigSep Finset.univ fun p => semVal (kcell (c, p)) 0)
    ∗ (((c : Thread nD τ).loc main_arg0 ↦{fullShare} m ((c : Thread nD τ).loc main_arg0))
      ∗ ((c : Thread nD τ).loc main_v1 ↦{fullShare} m ((c : Thread nD τ).loc main_v1)))
    ∗ Pipeline.launchCred (fun d => owedFrom d 0) c ∗ Ghost m c)

/-- The same once the device's semaphores are governed. -/
def Governed (c : Dev nD) : sProp 𝕄 :=
  iprop((bigSep Finset.univ fun p => iprop(∃ κ : ℕ, cellInv ER (Rd m) κ (kcell (c, p)))) ∗ bigSep Finset.univ (begun c) ∗ Found m c)

theorem govern (c : Dev nD) : Given m c ⊢ |={Set.univ}=> Governed m c := by
  unfold Given Governed Ghost Found
  iintro ⟨Hz, Hb, Hc, Hs, Hr, Hp, Ht⟩
  imod (govern_device m c) $$ [Hz Hs] with Hi
  · isplitl [Hz] <;> iassumption
  imodintro
  isplitl [Hi]; · iexact Hi
  isplitl [Hr]; · iexact Hr
  isplitl [Hb]; · iexact Hb
  isplitl [Hc]; · iexact Hc
  isplitl [Hp] <;> iassumption

theorem begin_all : bigSep Finset.univ (Governed m) ⊢ bigSep Finset.univ fun c => iprop(∃ K, Begin m K c) := by
  have hI := (bigSep_univ_prod fun x : Dev nD × Piece => (iprop(∃ κ : ℕ, cellInv ER (Rd m) κ (kcell x)) : sProp 𝕄)).symm
  have hR := (bigSep_univ_prod fun x : Dev nD × Piece => (reached ER (kcell x) 0 : sProp 𝕄)).symm
  unfold Governed
  simp only [bigSep_sep']
  iintro ⟨Hi, Hr, Hf⟩
  ihave Hi' := (Entails.of_eq hI) $$ Hi
  ihave Hr' := (Entails.of_eq hR) $$ Hr
  ihave HK := (BI.bigSep_exists_pi Finset.univ (fun (x : Dev nD × Piece) (κ : ℕ) => (cellInv ER (Rd m) κ (kcell x) : sProp 𝕄))) $$ Hi'
  icases HK with ⟨%K, HI⟩
  ihave Hst := (stocks m) $$ Hf
  iapply (along (R := Known m K) (Φ := Stock m) (begin_of_stock m K))
  isplitl [HI Hr']
  · unfold Known; isplitl [HI] <;> iassumption
  · iexact Hst

theorem begin_together : bigSep Finset.univ (Given m) ⊢ |={Set.univ}=> bigSep Finset.univ fun c => iprop(∃ K, Begin m K c) :=
  ((bigSep_mono fun c _ => govern m c).trans (bigSep_fupd _ _)).trans (BI.fupd_mono (begin_all m))

end Cert.KernelIdeal.Gather

end
-- ==== Proof.Run.lean ====
/-
  The whole program's run: on every device the one kernel, from the launch to the return, and what the
  memory then holds.
-/
module

public import proofs.«01_k».proof.Proof.Start
public import Idealize.ShloMosaic.Lib.Quiescent

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The kernel as the one step of its call -/

/-- Before the step a device has all its kernel starts from and owes its partner every chunk; after it,
    what its kernel leaves, and owes nothing. -/
def dats (_ : Fin 1) (c : Dev nD) : Dat τ (Elt F) Unit ℕ UU ℕ cfg0 c where
  A w := w.elim0
  after w _ := w.elim0
  Φ t := match t with
    | ⟨0, _⟩ => iprop(∃ K, Begin m K c)
    | ⟨_ + 1, _⟩ => End m c
  q _ := fullShare
  owed t := match t with
    | ⟨0, _⟩ => owedFrom c 0
    | ⟨_ + 1, _⟩ => 0

/-- A product over the call's windows: it has none. -/
theorem over_windows (Φ : Fin cfg0.W → sProp 𝕄) : bigSep Finset.univ Φ = (BI.emp : sProp 𝕄) := by
  rw [show (Finset.univ : Finset (Fin cfg0.W)) = ∅ from rfl]; exact BI.bigSep_empty

/-- What a device owes, as the call states it; nothing is asked of the waits made. -/
theorem owes_at (c : Dev nD) (t : Fin (cfg0.N + 1)) :
    iprop(∃ W : Waits sig Unit, owes (c : Thread nD τ) ((dats (F := F) m 0 c).owed t) W) ⊢ (dats (F := F) m 0 c).owesAt () t := by
  iintro ⟨%W, H⟩
  iexists W
  isplitr; · ipureintro; exact fun _ _ => Or.inl trivial
  iexact H

theorem owes_of_at (c : Dev nD) (t : Fin (cfg0.N + 1)) :
    (dats (F := F) m 0 c).owesAt () t ⊢ iprop(∃ W : Waits sig Unit, owes (c : Thread nD τ) ((dats (F := F) m 0 c).owed t) W) := by
  iintro ⟨%W, -, H⟩
  iexists W; iexact H

/-- The step is the kernel's run. -/
theorem kernel_step (c : Dev nD) :
    iprop((∃ K, Begin m K c) ∗ (∃ W : Waits sig Unit, owes (c : Thread nD τ) (owedFrom c 0) W) ∗ emp)
      ⊢ wp frame (wpE (defs₀ (F := F)) 𝒱₀ (c : Thread nD τ) none) Set.univ
          (cc0_body (Memref.whole main_arg0) (Memref.isWhole_whole _) (Memref.whole main_v1) (Memref.isWhole_whole _) cc0_scratch0 cc0_scratch1 cc0_scratch2)
          (fun _ => iprop(End m c ∗ (∃ W : Waits sig Unit, owes (c : Thread nD τ) 0 W) ∗ emp)) := by
  iintro ⟨⟨%K, HB⟩, HO, -⟩
  iapply (sound_body m K c fun _ => iprop(End m c ∗ (∃ W : Waits sig Unit, owes (c : Thread nD τ) 0 W) ∗ emp))
  isplitl [HB HO]
  · isplitl [HB] <;> iassumption
  iintro ⟨HE, HO⟩
  isplitl [HE]; · iexact HE
  isplitl [HO]; · iexact HO
  iempintro

theorem body_obligation (c : Dev nD) : BodyObligation (dats (F := F) m 0 c) (defs₀ (F := F)) 𝒱₀ () Set.univ := fun t => by
  rw [fin_N0 t]
  simp only [over_windows]
  have hpre := owes_of_at m c (0 : Fin (cfg0.N + 1))
  have hpost := owes_at m c (Fin.last cfg0.N)
  refine BI.Entails.trans ?_ ((kernel_step m c).trans (wp_mono _ _ _ fun _ => ?_))
  · exact sep_mono_right (sep_mono_left hpre)
  · exact sep_mono_right (sep_mono_left hpost)

/-! ## The call -/

/-- The kernel's semaphores are scoped, distinct, and no window's. -/
theorem own_sems : Pipeline.OwnSemFacts cfg0.spec osem where
  isScoped := by decide +kernel
  inj := osem_injective
  disj _ w := w.elim0

/-- A device's scoped semaphores that the kernel does not name. -/
def idle (c : Dev nD) : sProp 𝕄 := Pipeline.idleSems0 cfgs cellOf_inj 0 own_sems c

/-- A device's scoped semaphores at zero: the kernel's and the idle ones. -/
theorem scoped_sems (c : Dev nD) :
    (scopedSems0 (c : Thread nD τ) : sProp 𝕄)
      = iprop((BI.emp ∗ bigSep Finset.univ fun p => semVal (kcell (c, p)) 0) ∗ idle c) := by
  have h := Pipeline.scopedSems0_split (Ix := Unit) (Val := Elt F) (Name := ℕ) (U := UU) (Lvl := ℕ) cfgs cellOf_inj 0 winFacts0.to₀ own_sems c
  have hz : (Pipeline.cellsSems0 cfgs 0 c : sProp 𝕄) = BI.emp := over_windows _
  rw [hz] at h
  exact h

/-- A device's buffers that are not scoped: its block and its result. -/
theorem unscoped_bufs (c : Dev nD) :
    (unscopedBufs c (fun b => m ((c : Thread nD τ).loc b)) : sProp 𝕄)
      ⊢ iprop(((c : Thread nD τ).loc main_arg0 ↦{fullShare} m ((c : Thread nD τ).loc main_arg0))
          ∗ ((c : Thread nD τ).loc main_v1 ↦{fullShare} m ((c : Thread nD τ).loc main_v1))) := by
  have h := Pipeline.unscopedBufs_split (Ix := Unit) (Name := ℕ) (U := UU) (Lvl := ℕ) cfgs 0 winFacts0.arr_unscoped winFacts0.arr_inj c
    (fun b => m ((c : Thread nD τ).loc b))
  rw [over_windows, unscopedRest0_eq] at h
  rw [h]
  iintro ⟨-, H⟩
  iexact H

/-- What a device holds before its program, -/
def Before (c : Dev nD) : sProp 𝕄 :=
  iprop(scopedBufs (c : Thread nD τ) ∗ idle c ∗ owes (c : Thread nD τ) (owedFrom c 0) ∅ ∗ ∃ K, Begin m K c)
/-- and after it: its block as it was, its result gathered, its scoped semaphores at zero. -/
def After (c : Dev nD) : sProp 𝕄 :=
  iprop((((c : Thread nD τ).loc main_arg0 ↦{fullShare} m ((c : Thread nD τ).loc main_arg0))
      ∗ ((c : Thread nD τ).loc main_v1 ↦{fullShare} gathered m c))
    ∗ scopedSems0 (c : Thread nD τ))

/-- The call prefetches no table. -/
abbrev adm (p : Fin 1) : (pcfgs (F := F) p).Adm := (cfgs p).toPCfg_adm

/-- Before its step the call holds what the program owes, and no window's array or buffer. -/
theorem entry_pre (κ : GSem nD τ sig → ℕ) (c : Dev nD) :
    (owes (c : Thread nD τ) (owedFrom c 0) ∅ : sProp 𝕄)
      ⊢ Pipeline.EntryPre (Pipeline.pin (pcfgs (F := F)) adm) (dats (F := F) m) () ER κ 0 c := by
  have hw (Φ : Fin cfg0.W → sProp 𝕄) : (BI.emp : sProp 𝕄) ⊢ bigSep Finset.univ Φ := Entails.of_eq (over_windows Φ).symm
  have ho := owes_at m c (0 : Fin (cfg0.N + 1))
  have h1 : (BI.emp : sProp 𝕄) ⊢ (dats (F := F) m 0 c).arrays ((dats (F := F) m 0 c).arrAt · 0) := hw _
  have h2 : (BI.emp : sProp 𝕄) ⊢ Pipeline.cellsWaits (Pipeline.pin (pcfgs (F := F)) adm) (dats (F := F) m) () 0 c := hw _
  have h3 : (BI.emp : sProp 𝕄) ⊢ Pipeline.cellsInit (Pipeline.pin (pcfgs (F := F)) adm) (dats (F := F) m) ER κ 0 c := hw _
  have h4 : (BI.emp : sProp 𝕄) ⊢ Pipeline.toksInit (Pipeline.pin (pcfgs (F := F)) adm) ER 0 c := hw _
  unfold Pipeline.EntryPre Pipeline.PerCore.EntryPre
  iintro HO
  isplitr; · iapply h1; iempintro
  isplitl [HO]; · iapply ho; iexists _; iexact HO
  isplitr; · iapply h2; iempintro
  isplitr; · iapply h3; iempintro
  iapply h4; iempintro

theorem entry_post (c : Dev nD) :
    Pipeline.EntryPost (Pipeline.pin (pcfgs (F := F)) adm) (dats (F := F) m) () 0 c
      ⊢ iprop(∃ W : Waits sig Unit, owes (c : Thread nD τ) 0 W) := by
  have ho := owes_of_at m c (Fin.last cfg0.N)
  unfold Pipeline.EntryPost Pipeline.PerCore.EntryPost
  iintro ⟨-, HO⟩
  iapply ho; iexact HO

theorem program_run (c : Dev nD) :
    Before m c ⊢ wp frame (wpE (defs (F := F)) (Variants.lift 𝒱₀) (c : Thread nD τ) none) Set.univ (main (F := F) c)
      (fun _ => post (liftTc (After m) BI.emp) (c : Thread nD τ)) := by
  have hbufs := Pipeline.scopedBufs_split (Ix := Unit) (Val := Elt F) (Name := ℕ) (U := UU) (Lvl := ℕ) (nD := nD) (τ := τ) cfgs 0
    winFacts0.stage_scoped winFacts0.stage_inj stage_whole0 c
  have hin : iprop((∃ K, Begin m K c) ∗ Pipeline.prefHeld (pcfgs (F := F) 0).pre c (fun _ => fullShare.right) (adm (F := F) 0).1
      ∗ Pipeline.scopedRest cfg0.spec c) ⊢ (dats (F := F) m 0 c).Φ 0 := sep_elim_left
  have hout : iprop((dats (F := F) m 0 c).Φ (Fin.last cfg0.N) ∗ Pipeline.cellsSems0 cfgs 0 c ∗ Dat.staging cfg0 c ∗ idle c)
      ⊢ iprop((((c : Thread nD τ).loc main_arg0 ↦{fullShare} m ((c : Thread nD τ).loc main_arg0))
          ∗ ((c : Thread nD τ).loc main_v1 ↦{fullShare} gathered m c))
        ∗ scopedSems0 (c : Thread nD τ) ∗ scopedBufs (c : Thread nD τ)) := by
    rw [hbufs, show (dats (F := F) m 0 c).Φ (Fin.last cfg0.N) = End m c from rfl, scopedRest0_eq, scoped_sems]
    iintro ⟨HE, -, Hst, Hi⟩
    ihave H := (pieces_together m c) $$ HE
    icases H with ⟨HM, Hz⟩
    isplitl [HM]; · iexact HM
    isplitl [Hz Hi]
    · isplitl [Hz]
      · isplitr; · iempintro
        iexact Hz
      · iexact Hi
    isplitl [Hst]; · iexact Hst
    iempintro
  have hpf : (BI.emp : sProp 𝕄) ⊢ Pipeline.prefHeld (pcfgs (F := F) 0).pre c (fun _ => fullShare.right) (adm (F := F) 0).1 :=
    Entails.of_eq (over_windows _).symm
  unfold Before
  rw [show main (F := F) c = .op (.customCall (Pipeline.entry 0) ()) fun _ => .ret ⟨⟩ from rfl]
  iintro ⟨Hb, Hi, HO, HB⟩
  iapply (Pipeline.wp_customCall_entry_frame (pcfgs (F := F)) adm (dats (F := F) m) () ER (fun _ => 0) cellOf_inj 0 defs₀ 𝒱₀
    (fun _ => fullShare.right) c Set.univ (fun _ _ => Set.mem_univ _) (body_obligation m c).loose (fun w => w.elim0) none (fun u h => nomatch h)
    (X := iprop(∃ K, Begin m K c)) (R := Pipeline.scopedRest cfg0.spec c) (I := idle c) (Entails.of_eq hbufs) hin hout) $$ [Hb Hi HO HB]
  · isplitl [HO]; · iapply (entry_pre m (fun _ => 0) c); iexact HO
    isplitr; · iapply hpf; iempintro
    isplitl [HB]; · iexact HB
    isplitl [Hi] <;> iassumption
  iintro ⟨Hpost, HM, Hz, -⟩
  rw [wp_ret]; imodintro
  unfold post; simp only [liftTc_tc, After]
  ihave HO := (entry_post m c) $$ Hpost
  isplitr [HO]
  · isplitl [HM] <;> iassumption
  · iexact HO

/-! ## The launch -/

/-- What the launch finds on a device, for the common step and apart from it. -/
theorem launch_one (g : Dev nD → PrngReg) (c : Dev nD) :
    iprop(coreInit (Ix := Unit) (Name := ℕ) (U := UU) (Lvl := ℕ) (Pipeline.owing fun d => owedFrom d 0) 0 (⟨m, fun _ => 0, g⟩ : MemSt nD τ sig (Elt F)) (c : Thread nD τ) ∗ Ghost m c)
      ⊢ iprop((scopedBufs (c : Thread nD τ) ∗ idle c ∗ owes (c : Thread nD τ) (owedFrom c 0) ∅) ∗ Given m c) := by
  iintro ⟨HI, HG⟩
  ihave H := (Pipeline.coreInit_boundary_owing (fun d => owedFrom d 0) m g c) $$ HI
  icases H with ⟨Hb, Hub, -, HO, -, -, Hc⟩
  unfold boundary Given
  icases Hb with ⟨Hsb, Hss, -⟩
  ihave Hss' := (Entails.of_eq (scoped_sems c)) $$ Hss
  icases Hss' with ⟨⟨-, Hz⟩, Hi⟩
  ihave Hm := (unscoped_bufs m c) $$ Hub
  isplitl [Hsb Hi HO]
  · isplitl [Hsb]; · iexact Hsb
    isplitl [Hi] <;> iassumption
  isplitl [Hz]; · iexact Hz
  isplitl [Hm]; · iexact Hm
  isplitl [Hc] <;> iassumption

theorem launch_all (g : Dev nD → PrngReg) :
    iprop((bigSep Finset.univ fun c : Dev nD => coreInit (Ix := Unit) (Name := ℕ) (U := UU) (Lvl := ℕ) (Pipeline.owing fun d => owedFrom d 0) 0
        (⟨m, fun _ => 0, g⟩ : MemSt nD τ sig (Elt F)) (c : Thread nD τ)) ∗ ownU u₀)
      ⊢ |={Set.univ}=> bigSep Finset.univ (Before m) := by
  have h1 : (bigSep Finset.univ fun c : Dev nD => iprop(coreInit (Ix := Unit) (Name := ℕ) (U := UU) (Lvl := ℕ) (Pipeline.owing fun d => owedFrom d 0) 0
        (⟨m, fun _ => 0, g⟩ : MemSt nD τ sig (Elt F)) (c : Thread nD τ) ∗ Ghost m c))
      ⊢ iprop((bigSep Finset.univ fun c : Dev nD => iprop(scopedBufs (c : Thread nD τ) ∗ idle c ∗ owes (c : Thread nD τ) (owedFrom c 0) ∅))
        ∗ bigSep Finset.univ (Given m)) :=
    (bigSep_mono fun c _ => launch_one m g c).trans (Entails.of_eq (bigSep_sep' _ _ _))
  rw [bigSep_sep'] at h1
  iintro ⟨HI, HU⟩
  imod (fund_all m) $$ HU with HG
  ihave H := h1 $$ [HI HG]
  · isplitl [HI] <;> iassumption
  icases H with ⟨HA, HB⟩
  imod (begin_together m) $$ HB with HK
  imodintro
  unfold Before
  simp only [bigSep_sep']
  icases HA with ⟨Hb, Hi, HO⟩
  isplitl [Hb]; · iexact Hb
  isplitl [Hi]; · iexact Hi
  isplitl [HO] <;> iassumption

/-! ## What the memory holds at the end -/

/-- A device's part of the end: its block as it was, its result gathered. -/
def Ends (c : Dev nD) (s : MemSt nD τ sig (Elt F)) : Prop :=
  s.mem ((c : Thread nD τ).loc main_arg0) = m ((c : Thread nD τ).loc main_arg0)
    ∧ s.mem ((c : Thread nD τ).loc main_v1) = gathered m c

theorem read_end (c : Dev nD) (s' : Phys nD τ sig (Elt F)) :
    iprop(After m c ∗ SI s') ⊢ |={Set.univ}=> iprop(⌜Ends m c s'.mem
      ∧ ∀ sm : SemLoc sig, sm.isScoped .tc = true → s'.mem.sem ((c : Thread nD τ), sm) = 0⌝ ∗ SI s') := by
  unfold After
  iintro ⟨⟨⟨Hx, Ho⟩, Hs⟩, HSI⟩
  ihave %hz := (tcScoped_read_pers c s') $$ [Hs HSI]
  · isplitl [Hs] <;> iassumption
  icombine HSI Hx gives %hx
  icombine HSI Ho gives %ho
  imodintro
  isplitr
  · ipureintro
    exact ⟨⟨Buf.eq_of_forall_mem_univ hx, Buf.eq_of_forall_mem_univ ho⟩, hz⟩
  · iexact HSI

/-- The program's run, from any memory with every semaphore at zero: it ends, and then every device has
    its block as it was, its result gathered, and every semaphore is at zero. -/
theorem run (g : Dev nD → PrngReg) :
    θ_run defs (onTc (τ := τ) (main (F := F))) ⟨m, fun _ => 0, g⟩ (fun r => (∀ c, Ends m c r.2) ∧ r.2.sem = fun _ => 0) := by
  refine (θ_run defs _ _).mono (Q := fun r => (∀ c : Dev nD, Ends m c r.2
      ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩)
    (adequate_tpu defs _ _ _
      (reflect_intro_fupd_tc_sems (X := Unit) (Ix := Unit) (Name := ℕ) (U := UU) (Lvl := ℕ) (Variants.lift 𝒱₀) (Pipeline.owing fun d => owedFrom d 0) 0
        (noBookings fun _ => le_rfl) (Pipeline.owing_of_ne _) u₀ (fun _ => Before m) (fun _ => After m)
        (fun _ => iprop(emp)) Set.univ ?_ (fun _ c => program_run m c) fun _ => ?_))
  · iintro H
    imod (launch_all m g) $$ H with HB
    imodintro
    iexists ()
    isplitl [HB]; · iexact HB
    iempintro
  · iintro ⟨H, -, Hsc⟩ %s' HSI
    ihave %hsc := (scSems_read_zero m g s') $$ [Hsc HSI]
    · isplitl [Hsc] <;> iassumption
    imod (posts_fupd Finset.univ (read_end m) s') $$ [H HSI] with %h
    · isplitl [H] <;> iassumption
    imodintro
    ipureintro
    exact ⟨fun c => h c (Finset.mem_univ c), hsc⟩

end Cert.KernelIdeal.Gather

end
-- ==== Proof.Value.lean ====
/-
  The gathered array is the whole array: when each device's block is its half of one array, what the
  kernel leaves on every device is that array.
-/
module

public import proofs.«01_k».proof.Proof.Views
public import Idealize.ShloMosaic.Lib.Layout

@[expose] public section

noncomputable section

namespace Cert.KernelIdeal.Gather

open Cert.KernelIdeal Cert.KernelIdeal.Gen
open Idealize.ShloMosaic Idealize.ShloMosaic.TcCoe

variable {F : FTy → Type}

/-- The owner of a row is on the side whose half the row is in. -/
theorem side_owner (c : Dev nD) (i : S16384x1024.Idx) : side (owner c i) = (i 0).val / 8192 := by
  have h0 : (i 0).val < 16384 := (i 0).isLt
  have hp := side_peer c
  have hl := side_lt c
  unfold owner
  split <;> omega

/-- The block a device holds along the rows is numbered by its side of the mesh. -/
theorem rows_block (c : Dev nD) : Layout.meshLin [2, 4, 4] c.val [0] = side c := by
  have h32 : c.val < 32 := c.isLt
  show c.val / 16 % 2 * 1 + 0 = c.val / 16
  omega

/-- An element of the result is, in the whole array, where its owner's block places it. -/
theorem place_of_owner (c : Dev nD) (i : S16384x1024.Idx)
    (h : Layout.TilesN ⟨2, ![8192, 1024]⟩ ⟨2, ![16384, 1024]⟩ fun b => Layout.cutSize [2, 4, 4] ((![[0], []] : Fin 2 → List Nat) b)) :
    h.idx (Layout.meshBlock [2, 4, 4] ![[0], []] (owner c i)) (within i) = i := by
  funext b
  apply Fin.ext
  revert b
  refine (Fin.forall_fin_two).2 ⟨?_, ?_⟩
  · show Layout.meshLin [2, 4, 4] (owner c i).val [0] * 8192 + (i 0).val % 8192 = (i 0).val
    rw [rows_block, side_owner]
    exact Nat.div_add_mod' _ _
  · show 0 * 1024 + (i 1).val = (i 1).val
    omega

/-- If every device's block is its half of `w`, every device's gathered array is `w`. -/
theorem gathered_eq (m : (ℓ : Loc nD τ sig) → Buf (Elt F) ℓ) (w : S16384x1024.Idx → Elt F .f32)
    (hm : ∀ c : Dev nD, m ((c : Thread nD τ).loc main_arg0)
      = Layout.blockN ⟨2, ![8192, 1024]⟩ ⟨2, ![16384, 1024]⟩ (Layout.meshBlock [2, 4, 4] ![[0], []] c) w)
    (c : Dev nD) : gathered m c = w := by
  funext i
  show m ((owner c i : Thread nD τ).loc main_arg0) (within i) = w i
  rw [hm (owner c i)]
  exact congrArg w (place_of_owner c i _)

end Cert.KernelIdeal.Gather

end
-- ==== Proof.Ref.lean ====
/-
  The reference on its one device: it returns its argument, so its run changes nothing.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Identity

open Cert.ReferenceIdeal Cert.ReferenceIdeal.Gen
open Idealize.ShloMosaic Idealize.ShloMosaic.TcCoe Idealize.SL.Sem

variable {F : FTy → Type} [FloatOps F]

/-- From any memory with every counter at zero the reference terminates with the argument as it was and
    every counter at zero. -/
theorem run (m : (ℓ : Loc nD τ sig) → Buf (Elt F) ℓ) (g : Dev nD → PrngReg) :
    θ_run defs (onTc (τ := τ) (main (F := F))) ⟨m, fun _ => 0, g⟩ (fun r =>
      (∀ c : Dev nD, r.2.mem ((c : Thread nD τ).loc main_arg0) = m ((c : Thread nD τ).loc main_arg0))
        ∧ r.2.sem = fun _ => 0) := by
  have noBuffer : (Finset.univ.filter fun b : Ref sig .tc => b.isScoped) = ∅ := by decide
  have noSemaphore : (Finset.univ.filter fun s : SemLoc sig => s.isScoped .tc) = ∅ := by decide
  refine (θ_run defs _ _).mono (fun r h => ⟨fun c => h c main_arg0, sem_eq_zero_of_no_sems rfl r.2⟩)
    (StableHlo.run_seq noBuffer noSemaphore defs main (fun _ => []) (fun _ => rfl) (fun _ => ?_) m g
      (fun _ _ h => nomatch h))
  exact True.intro

end Cert.ReferenceIdeal.Identity

end
-- ==== Proof.lean ====
/-
  The proof of the certificate's claim.

  The kernel and its ideal reading are one text, and the run theorem is stated for every reading of the
  floats, so one theorem (Proof/Run.lean) serves both. Proof/Value.lean says what the gathered array is,
  Proof/Ref.lean runs the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value
public import proofs.«01_k».proof.Proof.Ref

@[expose] public section

noncomputable section

namespace Cert.Proof

open Idealize.ShloMosaic Idealize.SL.Sem

/-- The kernel over the extended reals ends with its argument as it was and every counter at
    zero. -/
theorem kernel_frame : quiescent_KernelIdeal := fun m g _ =>
  (θ_run _ _ _).mono (fun _ h => ⟨fun c => (h.1 c).1, h.2⟩) (Cert.KernelIdeal.Gather.run m g)

/-- The same of the kernel over its own floats, whose text is the same, by the same run theorem. -/
theorem machine_frame : quiescent_Kernel := fun m g _ =>
  (θ_run _ _ _).mono (fun _ h => ⟨fun c => (h.1 c).1, h.2⟩) (Cert.KernelIdeal.Gather.run (F := Bits) m g)

/-- Every device's result is the whole array its blocks are the halves of, which is what the reference
    returns. -/
theorem value : algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run _ _ _).mono
      (fun _ h c => ⟨(h.1 c).2.trans (Cert.KernelIdeal.Gather.gathered_eq m _ hm c), (h.1 c).1⟩)
      (Cert.KernelIdeal.Gather.run m g),
    (θ_run _ _ _).mono (fun _ h => ⟨h.1 0, h.1 0⟩) (Cert.ReferenceIdeal.Identity.run m' g')⟩

theorem claim : Cert.Claim :=
  ⟨Cert.Kernel.Gen.facts, Cert.KernelIdeal.Gen.facts, Cert.ReferenceIdeal.Gen.facts,
    machine_frame, kernel_frame, fun m g _ => Cert.ReferenceIdeal.Identity.run m g, trivial, value⟩

end Cert.Proof

end
